-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x1920 : Shape := ⟨3, ![192, 1, 1920]⟩
abbrev S31232x960 : Shape := ⟨2, ![31232, 960]⟩
abbrev S31232x120 : Shape := ⟨2, ![31232, 120]⟩
abbrev S_ : Shape := ⟨0, ![]⟩
abbrev S192x1920 : Shape := ⟨2, ![192, 1920]⟩
abbrev S960x31232 : Shape := ⟨2, ![960, 31232]⟩
abbrev S120x31232 : Shape := ⟨2, ![120, 31232]⟩
abbrev S1x1 : Shape := ⟨2, ![1, 1]⟩
abbrev S192x31232 : Shape := ⟨2, ![192, 31232]⟩
abbrev S960x512 : Shape := ⟨2, ![960, 512]⟩
abbrev S120x512 : Shape := ⟨2, ![120, 512]⟩
abbrev S192x512 : Shape := ⟨2, ![192, 512]⟩
abbrev S960x1x512 : Shape := ⟨3, ![960, 1, 512]⟩
abbrev S960x2x512 : Shape := ⟨3, ![960, 2, 512]⟩
abbrev S1920x512 : Shape := ⟨2, ![1920, 512]⟩
abbrev S120x16x512 : Shape := ⟨3, ![120, 16, 512]⟩
abbrev S120x1x512 : Shape := ⟨3, ![120, 1, 512]⟩
abbrev S192x1x31232 : Shape := ⟨3, ![192, 1, 31232]⟩

abbrev nBuf : Space → Nat
  | .hbm => 10
  | .vmem => 7
  | .smem => 1
  | _ => 0

abbrev bufTy : (tb : Table) → Fin (tcTables nBuf tb) → BufTy
  | .hbm, ⟨0, _⟩ => ⟨S192x1x1920, .bf16⟩
  | .hbm, ⟨1, _⟩ => ⟨S31232x960, .i8⟩
  | .hbm, ⟨2, _⟩ => ⟨S31232x120, .fp8e4m3⟩
  | .hbm, ⟨3, _⟩ => ⟨S_, .f32⟩
  | .hbm, ⟨4, _⟩ => ⟨S192x1920, .bf16⟩
  | .hbm, ⟨5, _⟩ => ⟨S960x31232, .i8⟩
  | .hbm, ⟨6, _⟩ => ⟨S120x31232, .fp8e4m3⟩
  | .hbm, ⟨7, _⟩ => ⟨S1x1, .f32⟩
  | .hbm, ⟨8, _⟩ => ⟨S192x31232, .bf16⟩
  | .hbm, ⟨9, _⟩ => ⟨S192x1x31232, .bf16⟩
  | .local _ .vmem, ⟨0, _⟩ => ⟨S192x1920, .bf16⟩
  | .local _ .vmem, ⟨1, _⟩ => ⟨S960x512, .i8⟩
  | .local _ .vmem, ⟨2, _⟩ => ⟨S960x512, .i8⟩
  | .local _ .vmem, ⟨3, _⟩ => ⟨S120x512, .fp8e4m3⟩
  | .local _ .vmem, ⟨4, _⟩ => ⟨S120x512, .fp8e4m3⟩
  | .local _ .vmem, ⟨5, _⟩ => ⟨S192x512, .bf16⟩
  | .local _ .vmem, ⟨6, _⟩ => ⟨S192x512, .bf16⟩
  | .local _ .smem, ⟨0, _⟩ => ⟨S1x1, .f32⟩
  | _, _ => ⟨S192x1x1920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![61], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x1920 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S960x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S120x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S192x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S192x1x1920 : Shape := ⟨3, ![192, 1, 1920]⟩
abbrev S31232x960 : Shape := ⟨2, ![31232, 960]⟩
abbrev S31232x120 : Shape := ⟨2, ![31232, 120]⟩
abbrev S_ : Shape := ⟨0, ![]⟩
abbrev S31232x120x8 : Shape := ⟨3, ![31232, 120, 8]⟩
abbrev S31232x120x1 : Shape := ⟨3, ![31232, 120, 1]⟩
abbrev S192x1x960 : Shape := ⟨3, ![192, 1, 960]⟩
abbrev S192x1x31232 : Shape := ⟨3, ![192, 1, 31232]⟩

abbrev nBuf : Space → Nat
  | .hbm => 128
  | .vmem => 2
  | .smem => 0
  | _ => 0

abbrev bufTy : (tb : Table) → Fin (tcTables nBuf tb) → BufTy
  | .hbm, ⟨0, _⟩ => ⟨S192x1x1920, .bf16⟩
  | .hbm, ⟨1, _⟩ => ⟨S31232x960, .i8⟩
  | .hbm, ⟨2, _⟩ => ⟨S31232x120, .fp8e4m3⟩
  | .hbm, ⟨3, _⟩ => ⟨S_, .f32⟩
  | .hbm, ⟨4, _⟩ => ⟨S31232x120, .bf16⟩
  | .hbm, ⟨5, _⟩ => ⟨S31232x960, .i32⟩
  | .hbm, ⟨6, _⟩ => ⟨S_, .i32⟩
  | .hbm, ⟨7, _⟩ => ⟨S31232x960, .i32⟩
  | .hbm, ⟨8, _⟩ => ⟨S31232x960, .i32⟩
  | .hbm, ⟨9, _⟩ => ⟨S_, .i32⟩
  | .hbm, ⟨10, _⟩ => ⟨S31232x960, .i32⟩
  | .hbm, ⟨11, _⟩ => ⟨S31232x960, .i32⟩
  | .hbm, ⟨12, _⟩ => ⟨S_, .i32⟩
  | .hbm, ⟨13, _⟩ => ⟨S31232x960, .i32⟩
  | .hbm, ⟨14, _⟩ => ⟨S31232x960, .i1⟩
  | .hbm, ⟨15, _⟩ => ⟨S_, .i32⟩
  | .hbm, ⟨16, _⟩ => ⟨S31232x960, .i32⟩
  | .hbm, ⟨17, _⟩ => ⟨S31232x960, .i32⟩
  | .hbm, ⟨18, _⟩ => ⟨S_, .i32⟩
  | .hbm, ⟨19, _⟩ => ⟨S31232x960, .i32⟩
  | .hbm, ⟨20, _⟩ => ⟨S31232x960, .i1⟩
  | .hbm, ⟨21, _⟩ => ⟨S_, .i32⟩
  | .hbm, ⟨22, _⟩ => ⟨S31232x960, .i32⟩
  | .hbm, ⟨23, _⟩ => ⟨S31232x960, .i32⟩
  | .hbm, ⟨24, _⟩ => ⟨S_, .i32⟩
  | .hbm, ⟨25, _⟩ => ⟨S31232x960, .i32⟩
  | .hbm, ⟨26, _⟩ => ⟨S31232x960, .i1⟩
  | .hbm, ⟨27, _⟩ => ⟨S_, .i32⟩
  | .hbm, ⟨28, _⟩ => ⟨S31232x960, .i32⟩
  | .hbm, ⟨29, _⟩ => ⟨S31232x960, .i32⟩
  | .hbm, ⟨30, _⟩ => ⟨S_, .i32⟩
  | .hbm, ⟨31, _⟩ => ⟨S31232x960, .i32⟩
  | .hbm, ⟨32, _⟩ => ⟨S31232x960, .i1⟩
  | .hbm, ⟨33, _⟩ => ⟨S_, .bf16⟩
  | .hbm, ⟨34, _⟩ => ⟨S_, .bf16⟩
  | .hbm, ⟨35, _⟩ => ⟨S31232x960, .bf16⟩
  | .hbm, ⟨36, _⟩ => ⟨S31232x960, .bf16⟩
  | .hbm, ⟨37, _⟩ => ⟨S31232x960, .bf16⟩
  | .hbm, ⟨38, _⟩ => ⟨S_, .bf16⟩
  | .hbm, ⟨39, _⟩ => ⟨S_, .bf16⟩
  | .hbm, ⟨40, _⟩ => ⟨S31232x960, .bf16⟩
  | .hbm, ⟨41, _⟩ => ⟨S31232x960, .bf16⟩
  | .hbm, ⟨42, _⟩ => ⟨S31232x960, .bf16⟩
  | .hbm, ⟨43, _⟩ => ⟨S31232x960, .bf16⟩
  | .hbm, ⟨44, _⟩ => ⟨S_, .bf16⟩
  | .hbm, ⟨45, _⟩ => ⟨S_, .bf16⟩
  | .hbm, ⟨46, _⟩ => ⟨S31232x960, .bf16⟩
  | .hbm, ⟨47, _⟩ => ⟨S31232x960, .bf16⟩
  | .hbm, ⟨48, _⟩ => ⟨S31232x960, .bf16⟩
  | .hbm, ⟨49, _⟩ => ⟨S_, .bf16⟩
  | .hbm, ⟨50, _⟩ => ⟨S_, .bf16⟩
  | .hbm, ⟨51, _⟩ => ⟨S31232x960, .bf16⟩
  | .hbm, ⟨52, _⟩ => ⟨S31232x960, .bf16⟩
  | .hbm, ⟨53, _⟩ => ⟨S31232x960, .bf16⟩
  | .hbm, ⟨54, _⟩ => ⟨S31232x960, .bf16⟩
  | .hbm, ⟨55, _⟩ => ⟨S31232x960, .bf16⟩
  | .hbm, ⟨56, _⟩ => ⟨S31232x960, .bf16⟩
  | .hbm, ⟨57, _⟩ => ⟨S31232x960, .bf16⟩
  | .hbm, ⟨58, _⟩ => ⟨S31232x120x8, .bf16⟩
  | .hbm, ⟨59, _⟩ => ⟨S31232x120x1, .bf16⟩
  | .hbm, ⟨60, _⟩ => ⟨S31232x120x8, .bf16⟩
  | .hbm, ⟨61, _⟩ => ⟨S31232x120x8, .bf16⟩
  | .hbm, ⟨62, _⟩ => ⟨S31232x960, .bf16⟩
  | .hbm, ⟨63, _⟩ => ⟨S_, .i32⟩
  | .hbm, ⟨64, _⟩ => ⟨S31232x960, .i32⟩
  | .hbm, ⟨65, _⟩ => ⟨S31232x960, .i32⟩
  | .hbm, ⟨66, _⟩ => ⟨S_, .i32⟩
  | .hbm, ⟨67, _⟩ => ⟨S31232x960, .i32⟩
  | .hbm, ⟨68, _⟩ => ⟨S31232x960, .i32⟩
  | .hbm, ⟨69, _⟩ => ⟨S_, .i32⟩
  | .hbm, ⟨70, _⟩ => ⟨S31232x960, .i32⟩
  | .hbm, ⟨71, _⟩ => ⟨S31232x960, .i1⟩
  | .hbm, ⟨72, _⟩ => ⟨S_, .i32⟩
  | .hbm, ⟨73, _⟩ => ⟨S31232x960, .i32⟩
  | .hbm, ⟨74, _⟩ => ⟨S31232x960, .i32⟩
  | .hbm, ⟨75, _⟩ => ⟨S_, .i32⟩
  | .hbm, ⟨76, _⟩ => ⟨S31232x960, .i32⟩
  | .hbm, ⟨77, _⟩ => ⟨S31232x960, .i1⟩
  | .hbm, ⟨78, _⟩ => ⟨S_, .i32⟩
  | .hbm, ⟨79, _⟩ => ⟨S31232x960, .i32⟩
  | .hbm, ⟨80, _⟩ => ⟨S31232x960, .i32⟩
  | .hbm, ⟨81, _⟩ => ⟨S_, .i32⟩
  | .hbm, ⟨82, _⟩ => ⟨S31232x960, .i32⟩
  | .hbm, ⟨83, _⟩ => ⟨S31232x960, .i1⟩
  | .hbm, ⟨84, _⟩ => ⟨S_, .i32⟩
  | .hbm, ⟨85, _⟩ => ⟨S31232x960, .i32⟩
  | .hbm, ⟨86, _⟩ => ⟨S31232x960, .i32⟩
  | .hbm, ⟨87, _⟩ => ⟨S_, .i32⟩
  | .hbm, ⟨88, _⟩ => ⟨S31232x960, .i32⟩
  | .hbm, ⟨89, _⟩ => ⟨S31232x960, .i1⟩
  | .hbm, ⟨90, _⟩ => ⟨S_, .bf16⟩
  | .hbm, ⟨91, _⟩ => ⟨S_, .bf16⟩
  | .hbm, ⟨92, _⟩ => ⟨S31232x960, .bf16⟩
  | .hbm, ⟨93, _⟩ => ⟨S31232x960, .bf16⟩
  | .hbm, ⟨94, _⟩ => ⟨S31232x960, .bf16⟩
  | .hbm, ⟨95, _⟩ => ⟨S_, .bf16⟩
  | .hbm, ⟨96, _⟩ => ⟨S_, .bf16⟩
  | .hbm, ⟨97, _⟩ => ⟨S31232x960, .bf16⟩
  | .hbm, ⟨98, _⟩ => ⟨S31232x960, .bf16⟩
  | .hbm, ⟨99, _⟩ => ⟨S31232x960, .bf16⟩
  | .hbm, ⟨100, _⟩ => ⟨S31232x960, .bf16⟩
  | .hbm, ⟨101, _⟩ => ⟨S_, .bf16⟩
  | .hbm, ⟨102, _⟩ => ⟨S_, .bf16⟩
  | .hbm, ⟨103, _⟩ => ⟨S31232x960, .bf16⟩
  | .hbm, ⟨104, _⟩ => ⟨S31232x960, .bf16⟩
  | .hbm, ⟨105, _⟩ => ⟨S31232x960, .bf16⟩
  | .hbm, ⟨106, _⟩ => ⟨S_, .bf16⟩
  | .hbm, ⟨107, _⟩ => ⟨S_, .bf16⟩
  | .hbm, ⟨108, _⟩ => ⟨S31232x960, .bf16⟩
  | .hbm, ⟨109, _⟩ => ⟨S31232x960, .bf16⟩
  | .hbm, ⟨110, _⟩ => ⟨S31232x960, .bf16⟩
  | .hbm, ⟨111, _⟩ => ⟨S31232x960, .bf16⟩
  | .hbm, ⟨112, _⟩ => ⟨S31232x960, .bf16⟩
  | .hbm, ⟨113, _⟩ => ⟨S31232x960, .bf16⟩
  | .hbm, ⟨114, _⟩ => ⟨S31232x960, .bf16⟩
  | .hbm, ⟨115, _⟩ => ⟨S31232x120x8, .bf16⟩
  | .hbm, ⟨116, _⟩ => ⟨S31232x120x1, .bf16⟩
  | .hbm, ⟨117, _⟩ => ⟨S31232x120x8, .bf16⟩
  | .hbm, ⟨118, _⟩ => ⟨S31232x120x8, .bf16⟩
  | .hbm, ⟨119, _⟩ => ⟨S31232x960, .bf16⟩
  | .hbm, ⟨120, _⟩ => ⟨S192x1x960, .bf16⟩
  | .hbm, ⟨121, _⟩ => ⟨S192x1x31232, .f32⟩
  | .hbm, ⟨122, _⟩ => ⟨S192x1x960, .bf16⟩
  | .hbm, ⟨123, _⟩ => ⟨S192x1x31232, .f32⟩
  | .hbm, ⟨124, _⟩ => ⟨S192x1x31232, .f32⟩
  | .hbm, ⟨125, _⟩ => ⟨S192x1x31232, .f32⟩
  | .hbm, ⟨126, _⟩ => ⟨S192x1x31232, .f32⟩
  | .hbm, ⟨127, _⟩ => ⟨S192x1x31232, .bf16⟩
  | .local _ .vmem, ⟨0, _⟩ => ⟨S31232x120, .fp8e4m3⟩
  | .local _ .vmem, ⟨1, _⟩ => ⟨S31232x120, .bf16⟩
  | _, _ => ⟨S192x1x1920, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_v13 : Ref sig .tc := ⟨.hbm, 23, rfl⟩
abbrev main_c_5 : Ref sig .tc := ⟨.hbm, 24, rfl⟩
abbrev main_v14 : Ref sig .tc := ⟨.hbm, 25, rfl⟩
abbrev main_v15 : Ref sig .tc := ⟨.hbm, 26, rfl⟩
abbrev main_c_6 : Ref sig .tc := ⟨.hbm, 27, rfl⟩
abbrev main_v16 : Ref sig .tc := ⟨.hbm, 28, rfl⟩
abbrev main_v17 : Ref sig .tc := ⟨.hbm, 29, rfl⟩
abbrev main_c_7 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_cst_8 : Ref sig .tc := ⟨.hbm, 34, rfl⟩
abbrev main_call0_v0 : Ref sig .tc := ⟨.hbm, 35, rfl⟩
abbrev main_call0_v1 : Ref sig .tc := ⟨.hbm, 36, rfl⟩
abbrev main_v20 : Ref sig .tc := ⟨.hbm, 37, rfl⟩
abbrev main_cst_9 : Ref sig .tc := ⟨.hbm, 38, rfl⟩
abbrev main_cst_10 : Ref sig .tc := ⟨.hbm, 39, rfl⟩
abbrev main_call1_v0 : Ref sig .tc := ⟨.hbm, 40, rfl⟩
abbrev main_call1_v1 : Ref sig .tc := ⟨.hbm, 41, rfl⟩
abbrev main_v21 : Ref sig .tc := ⟨.hbm, 42, rfl⟩
abbrev main_v22 : Ref sig .tc := ⟨.hbm, 43, rfl⟩
abbrev main_cst_11 : Ref sig .tc := ⟨.hbm, 44, rfl⟩
abbrev main_cst_12 : Ref sig .tc := ⟨.hbm, 45, rfl⟩
abbrev main_call3_v0 : Ref sig .tc := ⟨.hbm, 46, rfl⟩
abbrev main_call3_v1 : Ref sig .tc := ⟨.hbm, 47, rfl⟩
abbrev main_v23 : Ref sig .tc := ⟨.hbm, 48, rfl⟩
abbrev main_cst_13 : Ref sig .tc := ⟨.hbm, 49, rfl⟩
abbrev main_cst_14 : Ref sig .tc := ⟨.hbm, 50, rfl⟩
abbrev main_call4_v0 : Ref sig .tc := ⟨.hbm, 51, rfl⟩
abbrev main_call4_v1 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_15 : Ref sig .tc := ⟨.hbm, 63, rfl⟩
abbrev main_v34 : Ref sig .tc := ⟨.hbm, 64, rfl⟩
abbrev main_v35 : Ref sig .tc := ⟨.hbm, 65, rfl⟩
abbrev main_c_16 : Ref sig .tc := ⟨.hbm, 66, rfl⟩
abbrev main_v36 : Ref sig .tc := ⟨.hbm, 67, rfl⟩
abbrev main_v37 : Ref sig .tc := ⟨.hbm, 68, rfl⟩
abbrev main_c_17 : Ref sig .tc := ⟨.hbm, 69, rfl⟩
abbrev main_v38 : Ref sig .tc := ⟨.hbm, 70, rfl⟩
abbrev main_v39 : Ref sig .tc := ⟨.hbm, 71, rfl⟩
abbrev main_c_18 : Ref sig .tc := ⟨.hbm, 72, rfl⟩
abbrev main_v40 : Ref sig .tc := ⟨.hbm, 73, rfl⟩
abbrev main_v41 : Ref sig .tc := ⟨.hbm, 74, rfl⟩
abbrev main_c_19 : Ref sig .tc := ⟨.hbm, 75, rfl⟩
abbrev main_v42 : Ref sig .tc := ⟨.hbm, 76, rfl⟩
abbrev main_v43 : Ref sig .tc := ⟨.hbm, 77, rfl⟩
abbrev main_c_20 : Ref sig .tc := ⟨.hbm, 78, rfl⟩
abbrev main_v44 : Ref sig .tc := ⟨.hbm, 79, rfl⟩
abbrev main_v45 : Ref sig .tc := ⟨.hbm, 80, rfl⟩
abbrev main_c_21 : Ref sig .tc := ⟨.hbm, 81, rfl⟩
abbrev main_v46 : Ref sig .tc := ⟨.hbm, 82, rfl⟩
abbrev main_v47 : Ref sig .tc := ⟨.hbm, 83, rfl⟩
abbrev main_c_22 : Ref sig .tc := ⟨.hbm, 84, rfl⟩
abbrev main_v48 : Ref sig .tc := ⟨.hbm, 85, rfl⟩
abbrev main_v49 : Ref sig .tc := ⟨.hbm, 86, rfl⟩
abbrev main_c_23 : Ref sig .tc := ⟨.hbm, 87, rfl⟩
abbrev main_v50 : Ref sig .tc := ⟨.hbm, 88, rfl⟩
abbrev main_v51 : Ref sig .tc := ⟨.hbm, 89, rfl⟩
abbrev main_cst_24 : Ref sig .tc := ⟨.hbm, 90, rfl⟩
abbrev main_cst_25 : Ref sig .tc := ⟨.hbm, 91, rfl⟩
abbrev main_call8_v0 : Ref sig .tc := ⟨.hbm, 92, rfl⟩
abbrev main_call8_v1 : Ref sig .tc := ⟨.hbm, 93, rfl⟩
abbrev main_v52 : Ref sig .tc := ⟨.hbm, 94, rfl⟩
abbrev main_cst_26 : Ref sig .tc := ⟨.hbm, 95, rfl⟩
abbrev main_cst_27 : Ref sig .tc := ⟨.hbm, 96, rfl⟩
abbrev main_call9_v0 : Ref sig .tc := ⟨.hbm, 97, rfl⟩
abbrev main_call9_v1 : Ref sig .tc := ⟨.hbm, 98, rfl⟩
abbrev main_v53 : Ref sig .tc := ⟨.hbm, 99, rfl⟩
abbrev main_v54 : Ref sig .tc := ⟨.hbm, 100, rfl⟩
abbrev main_cst_28 : Ref sig .tc := ⟨.hbm, 101, rfl⟩
abbrev main_cst_29 : Ref sig .tc := ⟨.hbm, 102, rfl⟩
abbrev main_call11_v0 : Ref sig .tc := ⟨.hbm, 103, rfl⟩
abbrev main_call11_v1 : Ref sig .tc := ⟨.hbm, 104, rfl⟩
abbrev main_v55 : Ref sig .tc := ⟨.hbm, 105, rfl⟩
abbrev main_cst_30 : Ref sig .tc := ⟨.hbm, 106, rfl⟩
abbrev main_cst_31 : Ref sig .tc := ⟨.hbm, 107, rfl⟩
abbrev main_call12_v0 : Ref sig .tc := ⟨.hbm, 108, rfl⟩
abbrev main_call12_v1 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S31232x120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S31232x120 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Nibble.lean ====
/-
  The four-bit codes and their values.

  A byte of the packed weight holds two e2m1 codes: the low four bits and the high four bits. The kernel decodes a code
  by integer arithmetic (exponent and mantissa fields, a shift, a halving, a sign), the reference by a tree of selects
  over the code's bits whose leaves are the eight magnitudes as bfloat16 constants. Read at the extended reals, the two
  decodings are equal at every four-bit code (`arith_eq_tree`).
-/
module

public import Idealize.ShloMosaic.Lib.Pointwise.Tactic

@[expose] public section

noncomputable section

namespace Cert.Proof

open Idealize.ShloMosaic

/-! ## The two codes of a byte -/

/-- The low code of a byte: the byte as a 32-bit integer, masked by fifteen. -/
def low (w : BitVec 8) : BitVec 32 := IntOp.andi (w.setWidth 32) 15#32

/-- The high code of a byte: the byte as a 32-bit integer, shifted right by four. -/
def high (w : BitVec 8) : BitVec 32 := IntOp.shrsi .vector (w.setWidth 32) 4#32

/-- The low code is below sixteen. -/
theorem low_lt (w : BitVec 8) : (low w).toNat < 16 :=
  (by decide +kernel : ∀ w : BitVec 8, (low w).toNat < 16) w

/-- The host's shift of the byte gives the same high code. -/
theorem high_host (w : BitVec 8) : IntOp.shrsi .host (w.setWidth 32) 4#32 = high w := rfl

/-- The high code is below sixteen. -/
theorem high_lt (w : BitVec 8) : (high w).toNat < 16 :=
  (by decide +kernel : ∀ w : BitVec 8, (high w).toNat < 16) w

/-! ## The decoding by arithmetic -/

/-- The magnitude of a code in halves: the mantissa bit where the exponent field is zero, else the two-bit significand
    shifted left by the exponent less one. -/
def halves (c : BitVec 32) : BitVec 32 :=
  Scalar.select (IntOp.cmpi .eq (IntOp.andi (IntOp.shrsi .vector c 1#32) 3#32) 0#32) (IntOp.andi c 1#32)
    (IntOp.shli .vector (IntOp.addi (2#32) (IntOp.andi c 1#32))
      (IntOp.subi (IntOp.andi (IntOp.shrsi .vector c 1#32) 3#32) 1#32))

/-- The magnitude of a code: the count of halves, times one half. -/
def arithMag (c : BitVec 32) : EReal :=
  FloatOps.sitofp (F := Ideal) FTy.f32 (halves c) * Ideal.ofBits FTy.f32 0x3F000000#32

/-- The value of a code: its magnitude, negated where the code is eight or more. -/
def arith (c : BitVec 32) : EReal :=
  Scalar.select (IntOp.cmpi .sge c 8#32) (0 - arithMag c) (arithMag c)

/-! ## The decoding by selects -/

/-- The leaf of the select tree for a code's lowest bit: the first constant where the bit is set, else the second. -/
def leaf (c : BitVec 32) (a b : BitVec 16) : EReal :=
  Scalar.select (IntOp.cmpi .ne (IntOp.andi c 1#32) 0#32) (Ideal.ofBits FTy.bf16 a) (Ideal.ofBits FTy.bf16 b)

/-- The magnitude of a code: one of 6, 4, 3, 2, 1.5, 1, 0.5, 0 as bfloat16 constants, selected by the code's low three
    bits. -/
def treeMag (c : BitVec 32) : EReal :=
  Scalar.select (IntOp.cmpi .ne (IntOp.andi c 4#32) 0#32)
    (Scalar.select (IntOp.cmpi .ne (IntOp.andi c 2#32) 0#32) (leaf c 0x40C0#16 0x4080#16) (leaf c 0x4040#16 0x4000#16))
    (Scalar.select (IntOp.cmpi .ne (IntOp.andi c 2#32) 0#32) (leaf c 0x3FC0#16 0x3F80#16) (leaf c 0x3F00#16 0x0000#16))

/-- The value of a code: its magnitude, negated where the code's bit of weight eight is set. -/
def tree (c : BitVec 32) : EReal :=
  Scalar.select (IntOp.cmpi .ne (IntOp.andi c 8#32) 0#32) (-treeMag c) (treeMag c)

/-! ## The constants -/

/-- The single-precision constant one half. -/
theorem half_f32 : Ideal.ofBits FTy.f32 0x3F000000#32 = ((1 / 2 : ℝ) : EReal) := by
  simp [Ideal.ofBits, Ideal.ieee, -EReal.coe_mul]; norm_num

/-- The bfloat16 constant 6. -/
theorem c6 : Ideal.ofBits FTy.bf16 0x40C0#16 = ((6 : ℝ) : EReal) := by
  simp [Ideal.ofBits, Ideal.ieee, -EReal.coe_mul]; norm_num

/-- The bfloat16 constant 4. -/
theorem c4 : Ideal.ofBits FTy.bf16 0x4080#16 = ((4 : ℝ) : EReal) := by
  simp [Ideal.ofBits, Ideal.ieee, -EReal.coe_mul]; norm_num

/-- The bfloat16 constant 3. -/
theorem c3 : Ideal.ofBits FTy.bf16 0x4040#16 = ((3 : ℝ) : EReal) := by
  simp [Ideal.ofBits, Ideal.ieee, -EReal.coe_mul]; norm_num

/-- The bfloat16 constant 2. -/
theorem c2 : Ideal.ofBits FTy.bf16 0x4000#16 = ((2 : ℝ) : EReal) := by
  simp [Ideal.ofBits, Ideal.ieee, -EReal.coe_mul]; norm_num

/-- The bfloat16 constant 1.5. -/
theorem c15 : Ideal.ofBits FTy.bf16 0x3FC0#16 = ((3 / 2 : ℝ) : EReal) := by
  simp [Ideal.ofBits, Ideal.ieee, -EReal.coe_mul]; norm_num

/-- The bfloat16 constant 1. -/
theorem c1 : Ideal.ofBits FTy.bf16 0x3F80#16 = ((1 : ℝ) : EReal) := by
  simp [Ideal.ofBits, Ideal.ieee, -EReal.coe_mul]; norm_num

/-- The bfloat16 constant 0.5. -/
theorem c05 : Ideal.ofBits FTy.bf16 0x3F00#16 = ((1 / 2 : ℝ) : EReal) := by
  simp [Ideal.ofBits, Ideal.ieee, -EReal.coe_mul]; norm_num

/-- The bfloat16 constant 0. -/
theorem c0 : Ideal.ofBits FTy.bf16 0x0000#16 = ((0 : ℝ) : EReal) := by
  simp [Ideal.ofBits, Ideal.ieee]

/-! ## The two decodings agree -/

/-- The select tree's eight leaves with the constants read. -/
theorem leaf_eq (c : BitVec 32) :
    leaf c 0x40C0#16 0x4080#16 = Scalar.select (IntOp.cmpi .ne (IntOp.andi c 1#32) 0#32) ((6 : ℝ) : EReal) ((4 : ℝ) : EReal)
    ∧ leaf c 0x4040#16 0x4000#16 = Scalar.select (IntOp.cmpi .ne (IntOp.andi c 1#32) 0#32) ((3 : ℝ) : EReal) ((2 : ℝ) : EReal)
    ∧ leaf c 0x3FC0#16 0x3F80#16 = Scalar.select (IntOp.cmpi .ne (IntOp.andi c 1#32) 0#32) ((3 / 2 : ℝ) : EReal) ((1 : ℝ) : EReal)
    ∧ leaf c 0x3F00#16 0x0000#16 = Scalar.select (IntOp.cmpi .ne (IntOp.andi c 1#32) 0#32) ((1 / 2 : ℝ) : EReal) ((0 : ℝ) : EReal) := by
  unfold leaf
  rw [c6, c4, c3, c2, c15, c1, c05, c0]
  exact ⟨rfl, rfl, rfl, rfl⟩

/-- The counts of halves of the sixteen codes. -/
theorem halves_table : ∀ k : Fin 16, (halves (BitVec.ofNat 32 k.val)).toInt
    = (![0, 1, 2, 3, 4, 6, 8, 12, 0, 1, 2, 3, 4, 6, 8, 12] : Fin 16 → Int) k := by
  decide +kernel

/-- The value of each of the sixteen codes, by arithmetic and by selects. -/
theorem arith_eq_tree_ofNat (k : Fin 16) : arith (BitVec.ofNat 32 k.val) = tree (BitVec.ofNat 32 k.val) := by
  have hk := halves_table k
  obtain ⟨h1, h2, h3, h4⟩ := leaf_eq (BitVec.ofNat 32 k.val)
  unfold arith tree treeMag arithMag
  rw [h1, h2, h3, h4, half_f32]
  show Scalar.select _ (0 - (((halves (BitVec.ofNat 32 k.val)).toInt : ℝ) : EReal) * _)
    ((((halves (BitVec.ofNat 32 k.val)).toInt : ℝ) : EReal) * _) = _
  rw [hk, ← EReal.coe_mul]
  fin_cases k <;> simp [Scalar.select, IntOp.cmpi, IntOp.andi, -EReal.coe_mul] <;> norm_num [EReal.coe_eq_coe_iff, -EReal.coe_mul]

/-- At a code below sixteen the decoding by arithmetic is the decoding by selects. -/
theorem arith_eq_tree (c : BitVec 32) (h : c.toNat < 16) : arith c = tree c := by
  have e : c = BitVec.ofNat 32 c.toNat := by simp
  rw [e]
  exact arith_eq_tree_ofNat ⟨c.toNat, h⟩

end Cert.Proof

end
-- ==== Proof.Result.lean ====
/-
  The result both programs compute, as one function of the arguments.

  Entry `(b, n)` is the sum over the 1920 columns `k` of the activation `x[b, 0, k]` times the weight at row `n`, column
  `k` (the value of its code times the scale of its group of sixteen columns), times the global scale. A row of packed
  bytes holds two codes each: column `2j` is byte `j`'s low code, column `2j + 1` its high code. The sum over the columns
  is the sum over the bytes' low codes plus the sum over their high codes (`sum_split`).
-/
module

public import proofs.«01_k».proof.Proof.Nibble
public import Idealize.ShloMosaic.Lib.Pointwise.Index

@[expose] public section

noncomputable section

namespace Cert.Proof

open Idealize.ShloMosaic

/-- The code a byte holds at a column of the given parity: the low code at an even column, the high code at an odd one. -/
def codeOf (r : ℕ) (w : BitVec 8) : BitVec 32 := if r = 0 then low w else high w

/-- Every code is below sixteen. -/
theorem codeOf_lt (r : ℕ) (w : BitVec 8) : (codeOf r w).toNat < 16 := by
  unfold codeOf
  split
  · exact low_lt w
  · exact high_lt w

/-- The byte that holds column `k`'s code. -/
def byteOf (k : Fin 1920) : Fin 960 := ⟨k.val / 2, by omega⟩

/-- The group of sixteen columns that column `k` lies in. -/
def groupOf (k : Fin 1920) : Fin 120 := ⟨k.val / 16, by omega⟩

/-- The group of sixteen columns, eight bytes, that byte `j` lies in. -/
def byteGroup (j : Fin 960) : Fin 120 := ⟨j.val / 8, by omega⟩

/-- The result's entry for activation row `b` and weight row `n`. -/
def entry (x : (⟨3, ![192, 1, 1920]⟩ : Shape).Idx → EReal) (w : (⟨2, ![31232, 960]⟩ : Shape).Idx → BitVec 8)
    (s : (⟨2, ![31232, 120]⟩ : Shape).Idx → EReal) (g : EReal) (b : Fin 192) (n : Fin 31232) : EReal :=
  (∑ k : Fin 1920, x (ix3 b 0 k) * (tree (codeOf (k.val % 2) (w (ix2 n (byteOf k)))) * s (ix2 n (groupOf k)))) * g

/-- A sum over twice `n` places is the sum over the even places plus the sum over the odd places. -/
theorem sum_split {n N : ℕ} (h : N = n * 2) (f : Fin N → EReal) :
    ∑ k, f k = (∑ j : Fin n, f ⟨2 * j.val, by omega⟩) + ∑ j : Fin n, f ⟨2 * j.val + 1, by omega⟩ := by
  subst h
  rw [← finProdFinEquiv.sum_comp f, Fintype.sum_prod_type, ← Finset.sum_add_distrib]
  refine Finset.sum_congr rfl fun j _ => ?_
  rw [Fin.sum_univ_two]
  refine congrArg₂ (· + ·) (congrArg f (Fin.ext ?_)) (congrArg f (Fin.ext ?_))
  · show 0 + 2 * j.val = 2 * j.val
    omega
  · show 1 + 2 * j.val = 2 * j.val + 1
    omega

/-- The entry as the low codes' sum plus the high codes' sum, times the global scale. -/
theorem entry_eq_halves (x : (⟨3, ![192, 1, 1920]⟩ : Shape).Idx → EReal) (w : (⟨2, ![31232, 960]⟩ : Shape).Idx → BitVec 8)
    (s : (⟨2, ![31232, 120]⟩ : Shape).Idx → EReal) (g : EReal) (b : Fin 192) (n : Fin 31232) :
    entry x w s g b n
      = ((∑ j : Fin 960, x (ix3 b 0 ⟨2 * j.val, by omega⟩) * (tree (low (w (ix2 n j))) * s (ix2 n (byteGroup j))))
        + ∑ j : Fin 960, x (ix3 b 0 ⟨2 * j.val + 1, by omega⟩) * (tree (high (w (ix2 n j))) * s (ix2 n (byteGroup j)))) * g := by
  unfold entry
  rw [sum_split (n := 960) rfl]
  refine congrArg (· * g) (congrArg₂ (· + ·) (Finset.sum_congr rfl fun j _ => ?_) (Finset.sum_congr rfl fun j _ => ?_))
  · rw [show byteOf ⟨2 * j.val, by omega⟩ = j from Fin.ext (by show 2 * j.val / 2 = j.val; omega),
      show groupOf ⟨2 * j.val, by omega⟩ = byteGroup j from Fin.ext (by show 2 * j.val / 16 = j.val / 8; omega),
      show codeOf (2 * j.val % 2) (w (ix2 n j)) = low (w (ix2 n j)) from if_pos (by omega)]
  · rw [show byteOf ⟨2 * j.val + 1, by omega⟩ = j from Fin.ext (by show (2 * j.val + 1) / 2 = j.val; omega),
      show groupOf ⟨2 * j.val + 1, by omega⟩ = byteGroup j from Fin.ext (by show (2 * j.val + 1) / 16 = j.val / 8; omega),
      show codeOf ((2 * j.val + 1) % 2) (w (ix2 n j)) = high (w (ix2 n j)) from if_neg (by omega)]

end Cert.Proof

end
-- ==== Proof.Payload.lean ====
/-
  What the kernel's body computes from its blocks, at one index.

  The body unpacks the block of packed bytes into rows of codes (row `2i` the low codes of byte row `i`, row `2i + 1` its
  high codes), decodes them, scales each group of sixteen rows by its row of scales, multiplies the activations by the
  result, and multiplies by the global scale.
-/
module

public import proofs.«01_k».proof.Proof.Gen.KernelIdeal.Skeleton
public import proofs.«01_k».proof.Proof.Result
public import Idealize.ShloMosaic.Lib.Pipeline.Value
public import Idealize.ShloMosaic.Lib.Pointwise.Contract

@[expose] public section

noncomputable section

namespace Cert.Proof

open Idealize.ShloMosaic Idealize.SL.Sem Cert.KernelIdeal

/-! ## The body's three stages -/

/-- The codes of a block of packed bytes, two rows for each row of bytes. -/
def codes (w : Vec Ideal S960x512 .i8) : IVec S1920x512 32 :=
  have bytes : IVec S960x512 32 :=
    extui 32 (shapeCast S960x512 w Gen.shapeCasts_S960x512_S960x512) Gen.natLt_8_32
  shapeCast S1920x512 (concatenate S960x2x512 1
    [⟨S960x1x512, shapeCast S960x1x512 (andi bytes (broadcast S960x512 15#32)) Gen.shapeCasts_S960x512_S960x1x512⟩,
     ⟨S960x1x512, shapeCast S960x1x512 (shrsi bytes (broadcast S960x512 4#32)) Gen.shapeCasts_S960x512_S960x1x512⟩]
    Gen.concatenates_S960x1x512_S960x1x512_S960x2x512_d1) Gen.shapeCasts_S960x2x512_S1920x512

/-- The values of a block of codes. -/
def decoded (c : IVec S1920x512 32) : FVec Ideal S1920x512 .bf16 :=
  have e : IVec S1920x512 32 := andi (shrsi c (broadcast S1920x512 1#32)) (broadcast S1920x512 3#32)
  have m : IVec S1920x512 32 := andi c (broadcast S1920x512 1#32)
  have h : IVec S1920x512 32 := select (cmpi .eq e (broadcast S1920x512 0#32)) m
    (shli (addi (broadcast S1920x512 2#32) m) (subi e (broadcast S1920x512 1#32)))
  have mag : FVec Ideal S1920x512 .f32 :=
    mulf (sitofp .f32 h) (broadcast S1920x512 (Scalar.ofBits .f32 0x3F000000#32))
  truncf .bf16 (select (cmpi .sge c (broadcast S1920x512 8#32))
    (subf (broadcast S1920x512 (Scalar.ofBits .f32 0x00000000#32)) mag) mag) Gen.bitsLt_bf16_f32

/-- A block of values, each group of sixteen rows times its row of scales. -/
def scaled (v : FVec Ideal S1920x512 .bf16) (s : Vec Ideal S120x512 .fp8e4m3) : FVec Ideal S1920x512 .bf16 :=
  have sb : FVec Ideal S120x512 .bf16 :=
    extf .bf16 (shapeCast S120x512 s Gen.shapeCasts_S120x512_S120x512) Gen.bitsLt_fp8e4m3_bf16
  shapeCast S1920x512 (mulf (shapeCast S120x16x512 v Gen.shapeCasts_S1920x512_S120x16x512)
    (broadcastTo S120x16x512 (shapeCast S120x1x512 sb Gen.shapeCasts_S120x512_S120x1x512)
      Gen.broadcasts_S120x1x512_S120x16x512)) Gen.shapeCasts_S120x16x512_S1920x512

/-- The body's decoded block is the three stages in turn. -/
theorem pay2_eq (w : Vec Ideal S960x512 .i8) (s : Vec Ideal S120x512 .fp8e4m3) :
    Gen.k0_pay2 (F := Ideal) w s = scaled (decoded (codes w)) s := rfl

/-! ## Each stage at an index -/

/-- The code at row `2i + r` is the byte of row `i`'s low code (`r = 0`) or high code (`r = 1`). -/
theorem codes_at (w : Vec Ideal S960x512 .i8) (i : Fin 960) (r : Fin 2) (n : Fin 512) (k : Fin 1920)
    (hk : k.val = 2 * i.val + r.val) : codes w (ix2 k n) = codeOf r.val (w (ix2 i n)) := by
  unfold codes
  rw [shapeCast_apply _ _ (ix2 k n) (ix3 i r n) (by
    rw [Shape.rowMajor_val_three, Shape.rowMajor_val_two]
    show (i.val * 2 + r.val) * 512 + n.val = k.val * 512 + n.val
    omega)]
  have hcast (x : IVec S960x512 32) : shapeCast S960x1x512 x Gen.shapeCasts_S960x512_S960x1x512 (ix3 i 0 n) = x (ix2 i n) :=
    shapeCast_apply _ _ _ _ (by
      rw [Shape.rowMajor_val_three, Shape.rowMajor_val_two]
      show i.val * 512 + n.val = (i.val * 1 + 0) * 512 + n.val
      omega)
  match r with
  | ⟨0, _⟩ =>
    rw [concatenate_pair_apply_left (s₁ := S960x1x512) (s₂ := S960x1x512) (1 : Fin S960x2x512.rank) _ _ _ _ rfl (ix3 i 0 n)
      (fun b => by match b with | ⟨0, _⟩ => rfl | ⟨1, _⟩ => rfl | ⟨2, _⟩ => rfl), hcast, shapeCast_self]
    rfl
  | ⟨1, _⟩ =>
    rw [concatenate_pair_apply_right (s₁ := S960x1x512) (s₂ := S960x1x512) (1 : Fin S960x2x512.rank) _ _ _ _ rfl rfl
      (ix3 i 0 n) (fun b hb => by match b with | ⟨0, _⟩ => rfl | ⟨1, _⟩ => exact absurd rfl hb | ⟨2, _⟩ => rfl)
      rfl, hcast, shapeCast_self]
    rfl

/-- A decoded block holds each code's value. -/
theorem decoded_at (c : IVec S1920x512 32) (j : S1920x512.Idx) : decoded c j = arith (c j) := by
  unfold decoded arith arithMag halves
  pointwise

/-- The code at row `k`: the byte of row `k / 2`, its code of `k`'s parity. -/
theorem codes_row (w : Vec Ideal S960x512 .i8) (k : Fin 1920) (n : Fin 512) :
    codes w (ix2 k n) = codeOf (k.val % 2) (w (ix2 (byteOf k) n)) :=
  codes_at w (byteOf k) ⟨k.val % 2, by omega⟩ n k (by show k.val = 2 * (k.val / 2) + k.val % 2; omega)

/-- A scaled block holds each value times the scale of its row's group of sixteen. -/
theorem scaled_at (v : FVec Ideal S1920x512 .bf16) (s : Vec Ideal S120x512 .fp8e4m3) (k : Fin 1920) (n : Fin 512) :
    scaled v s (ix2 k n) = v (ix2 k n) * s (ix2 (groupOf k) n) := by
  obtain ⟨g, hG, hg⟩ : ∃ g : Fin 120, groupOf k = g ∧ g.val = k.val / 16 := ⟨groupOf k, rfl, rfl⟩
  rw [hG]
  unfold scaled
  have hr : k.val % 16 < 16 := Nat.mod_lt _ (by omega)
  rw [shapeCast_apply _ _ (ix2 k n) (ix3 g (⟨k.val % 16, hr⟩ : Fin 16) n) (by
    rw [Shape.rowMajor_val_three, Shape.rowMajor_val_two]
    show (g.val * 16 + k.val % 16) * 512 + n.val = k.val * 512 + n.val
    omega)]
  show shapeCast S120x16x512 v _ (ix3 g _ n) * broadcastTo S120x16x512 _ _ (ix3 g _ n) = _
  rw [shapeCast_apply v _ (ix3 g (⟨k.val % 16, hr⟩ : Fin 16) n) (ix2 k n) (by
    rw [Shape.rowMajor_val_three, Shape.rowMajor_val_two]
    show k.val * 512 + n.val = (g.val * 16 + k.val % 16) * 512 + n.val
    omega), broadcastTo_apply _ _ _ (ix3 g (0 : Fin 1) n) (fun a => by
    match a with | ⟨0, _⟩ => rfl | ⟨1, _⟩ => rfl | ⟨2, _⟩ => rfl),
    shapeCast_apply _ _ (ix3 g (0 : Fin 1) n) (ix2 g n) (by
    rw [Shape.rowMajor_val_three, Shape.rowMajor_val_two]
    show g.val * 512 + n.val = (g.val * 1 + 0) * 512 + n.val
    omega), shapeCast_self]
  rfl

/-- The stored block: the sum of products over the 1920 columns, times the global scale. -/
theorem pay1_at (v : FVec Ideal S1920x512 .bf16) (x : Vec Ideal S192x1920 .bf16) (g : Elt Ideal .f32) (b : Fin 192)
    (n : Fin 512) :
    Gen.k0_pay1 (F := Ideal) v x g (ix2 b n) = (∑ k : Fin 1920, x (ix2 b k) * v (ix2 k n)) * g := by
  unfold Gen.k0_pay1
  pointwise
  rw [shapeCast_self]

/-- What the body stores, at an index, as a function of its blocks. -/
theorem stored_at (x : Vec Ideal S192x1920 .bf16) (w : Vec Ideal S960x512 .i8) (s : Vec Ideal S120x512 .fp8e4m3)
    (g : Elt Ideal .f32) (b : Fin 192) (n : Fin 512) :
    Gen.k0_pay1 (F := Ideal) (Gen.k0_pay2 (F := Ideal) w s) x g (ix2 b n)
      = (∑ k : Fin 1920, x (ix2 b k)
          * (tree (codeOf (k.val % 2) (w (ix2 (byteOf k) n))) * s (ix2 (groupOf k) n))) * g := by
  rw [pay1_at, pay2_eq]
  refine congrArg (· * g) (Finset.sum_congr rfl fun k _ => ?_)
  rw [scaled_at, decoded_at, codes_row, arith_eq_tree _ (codeOf_lt _ _)]

end Cert.Proof

end
-- ==== Proof.KernelValue.lean ====
/-
  The array the kernel leaves.

  Each of the 61 grid points writes the block of 512 result columns its index names, computed from the whole of the
  activations and the same 512 columns of the transposed weight and scales. The blocks cover the array, so the array is
  `entry` at every index.
-/
module

public import proofs.«01_k».proof.Proof.Gen.KernelIdeal.Frame
public import proofs.«01_k».proof.Proof.Payload
public import Idealize.ShloMosaic.Lib.Claim

@[expose] public section

noncomputable section

namespace Cert.Proof

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- Zero offsets, as the constant function. -/
theorem hz : (![0, 0] : Fin 2 → Nat) = fun _ => 0 := funext fun a => by fin_cases a <;> rfl

/-- What the body leaves in the result's staging buffer, from the contents of the four input buffers. -/
theorem out_A (c : Dev nD) (i : grid0.Coords) (a1 : Memref sig .tc .vmem S192x1920 .bf16) (h1 : a1.IsWhole)
    (a2 : Memref sig .tc .vmem S960x512 .i8) (h2 : a2.IsWhole) (a3 : Memref sig .tc .vmem S120x512 .fp8e4m3) (h3 : a3.IsWhole)
    (a4 : Memref sig .tc .smem S1x1 .f32) (h4 : a4.IsWhole) (a5 : Memref sig .tc .vmem S192x512 .bf16) (h5 : a5.IsWhole)
    (x : Vec Ideal S192x1920 .bf16) (w : Vec Ideal S960x512 .i8) (s : Vec Ideal S120x512 .fp8e4m3) (g : Vec Ideal S1x1 .f32) :
    out0_A_4 c i a1 h1 a2 h2 a3 h3 a4 h4 a5 h5 x w s g = k0_pay1 (k0_pay2 w s) x (g (ix2 0 0)) := by
  unfold out0_A_4
  rw [View.read_writes_eq_canon _ _ _ (cover0_A_4 c i a1 h1 a2 h2 a3 h3 a4 h4 a5 h5 x w s g)]
  unfold kernelRun0_A
  dsimp only
  sl_unfold_words
  rw [View.canon_unit_zero hz]
  simp only [View.readAt_eq_ld, h1.read_unread, h2.read_unread, h3.read_unread, h4.read_unread,
    View.ld_unit_zero (S := S192x1920) hz, View.ld_unit_zero (S := S960x512) hz, View.ld_unit_zero (S := S120x512) hz,
    View.ld_unit_zero (S := S1x1) hz]
  exact congrArg (k0_pay1 (k0_pay2 w s) x) (congrArg g (funext fun a => by
    match a with
    | ⟨0, _⟩ => exact Subsingleton.elim (α := Fin 1) _ _
    | ⟨1, _⟩ => exact Subsingleton.elim (α := Fin 1) _ _))

/-! ## The arrays the grid finds -/

/-- The activations, as a matrix. -/
theorem V_v0 (c : Dev nD) : V m c main_v0
    = shapeCast S192x1920 (m ((c : Thread nD τ).loc main_arg0)) shapeCasts_S192x1x1920_S192x1920 := by
  simp only [V, V0, List.flatten_cons, List.flatten_nil, List.append_nil, hostOps0]
  after_results
  rfl

/-- The packed weight, transposed. -/
theorem V_v1 (c : Dev nD) : V m c main_v1
    = transpose S960x31232 [1, 0] (m ((c : Thread nD τ).loc main_arg1)) transposes_S31232x960_S960x31232_1_0 := by
  simp only [V, V0, List.flatten_cons, List.flatten_nil, List.append_nil, hostOps0]
  after_results

/-- The scales, transposed. -/
theorem V_v2 (c : Dev nD) : V m c main_v2
    = transpose S120x31232 [1, 0] (m ((c : Thread nD τ).loc main_arg2)) transposes_S31232x120_S120x31232_1_0 := by
  simp only [V, V0, List.flatten_cons, List.flatten_nil, List.append_nil, hostOps0]
  after_results

/-- The global scale, as a one-by-one matrix. -/
theorem V_v3 (c : Dev nD) : V m c main_v3
    = shapeCast S1x1 (m ((c : Thread nD τ).loc main_arg3)) shapeCasts_S_S1x1 := by
  simp only [V, V0, List.flatten_cons, List.flatten_nil, List.append_nil, hostOps0]
  after_results
  rfl

/-! ## The blocks the body reads -/

/-- A grid point's index along the result's columns is the point's number. -/
theorem idx_facts : ∀ t : Fin cfg0.N, win0_0.index t 0 = 0 ∧ win0_0.index t 1 = 0 ∧ win0_1.index t 0 = 0 ∧ win0_1.index t 1 = t.val
    ∧ win0_2.index t 0 = 0 ∧ win0_2.index t 1 = t.val ∧ win0_4.index t 0 = 0 ∧ win0_4.index t 1 = t.val :=
  (by decide +kernel : ∀ t : Fin grid0.N, win0_0.index t 0 = 0 ∧ win0_0.index t 1 = 0 ∧ win0_1.index t 0 = 0 ∧ win0_1.index t 1 = t.val
    ∧ win0_2.index t 0 = 0 ∧ win0_2.index t 1 = t.val ∧ win0_4.index t 0 = 0 ∧ win0_4.index t 1 = t.val)

/-- The column of the whole result that a point's block holds at its own column `n`. -/
def col (t : Fin cfg0.N) (n : Fin 512) : Fin 31232 :=
  ⟨512 * t.val + n.val, by have h : cfg0.N = 61 := N_0; have := t.isLt; omega⟩

/-- Every point reads the whole of the activations. -/
theorem blk0 (c : Dev nD) (t : Fin cfg0.N) (b : Fin 192) (k : Fin 1920) :
    (iblk m c 0 t : Vec Ideal S192x1920 .bf16) (ix2 b k) = m ((c : Thread nD τ).loc main_arg0) (ix3 b 0 k) := by
  obtain ⟨h0, h1, -⟩ := idx_facts t
  unfold iblk
  rw [View.read_apply]
  show V m c main_v0 _ = _
  rw [V_v0]
  refine shapeCast_apply _ _ _ (ix3 b 0 k) ?_
  rw [Shape.rowMajor_val_three, Shape.rowMajor_val_two]
  show (b.val * 1 + 0) * 1920 + k.val = (win0_0.index t 0 * 192 + 1 * b.val) * 1920 + (win0_0.index t 1 * 1920 + 1 * k.val)
  rw [h0, h1]
  omega

/-- A point reads its 512 weight rows, transposed. -/
theorem blk1 (c : Dev nD) (t : Fin cfg0.N) (i : Fin 960) (n : Fin 512) :
    (iblk m c 1 t : Vec Ideal S960x512 .i8) (ix2 i n) = m ((c : Thread nD τ).loc main_arg1) (ix2 (col t n) i) := by
  obtain ⟨-, -, h0, h1, -⟩ := idx_facts t
  unfold iblk
  rw [View.read_apply]
  show V m c main_v1 _ = _
  rw [V_v1]
  refine transpose_apply _ _ _ _ (ix2 (col t n) i) fun a => ?_
  match a with
  | ⟨0, _⟩ =>
    show i.val = win0_1.index t 0 * 960 + 1 * i.val
    rw [h0]; omega
  | ⟨1, _⟩ =>
    show 512 * t.val + n.val = win0_1.index t 1 * 512 + 1 * n.val
    rw [h1]; omega

/-- A point reads its 512 rows of scales, transposed. -/
theorem blk2 (c : Dev nD) (t : Fin cfg0.N) (i : Fin 120) (n : Fin 512) :
    (iblk m c 2 t : Vec Ideal S120x512 .fp8e4m3) (ix2 i n) = m ((c : Thread nD τ).loc main_arg2) (ix2 (col t n) i) := by
  obtain ⟨-, -, -, -, h0, h1, -⟩ := idx_facts t
  unfold iblk
  rw [View.read_apply]
  show V m c main_v2 _ = _
  rw [V_v2]
  refine transpose_apply _ _ _ _ (ix2 (col t n) i) fun a => ?_
  match a with
  | ⟨0, _⟩ =>
    show i.val = win0_2.index t 0 * 120 + 1 * i.val
    rw [h0]; omega
  | ⟨1, _⟩ =>
    show 512 * t.val + n.val = win0_2.index t 1 * 512 + 1 * n.val
    rw [h1]; omega

/-- Every point reads the global scale. -/
theorem blk3 (c : Dev nD) (t : Fin cfg0.N) (j : S1x1.Idx) :
    (iblk m c 3 t : Vec Ideal S1x1 .f32) j = m ((c : Thread nD τ).loc main_arg3) (fun a => a.elim0) := by
  unfold iblk
  rw [View.read_apply]
  show V m c main_v3 _ = _
  rw [V_v3]
  unfold shapeCast
  exact congrArg _ (funext fun a => a.elim0)

/-! ## The whole array -/

/-- The result's entry at device `c`, from the launch contents of the arguments. -/
def entryAt (c : Dev nD) (b : Fin 192) (n : Fin 31232) : EReal :=
  entry (m ((c : Thread nD τ).loc main_arg0)) (m ((c : Thread nD τ).loc main_arg1)) (m ((c : Thread nD τ).loc main_arg2))
    (m ((c : Thread nD τ).loc main_arg3) fun a => a.elim0) b n

/-- The array the grid leaves. -/
def result (c : Dev nD) : Buf (Elt Ideal) ((c : Thread nD τ).loc main_v4) := fun i => entryAt m c (i 0) (i 1)

/-- What a point writes back is its block of `result`. -/
theorem flushed_eq (c : Dev nD) (t : Fin cfg0.N) (_ : (cfg0.win 4).flush t = true) :
    (dats m 0 c).flushed 4 t = ((cfg0.win 4).blk t).view.read (Elt Ideal) (result m c) := by
  obtain ⟨-, -, -, -, -, -, h0, h1⟩ := idx_facts t
  show (cfg0.win 4).cut (grid0.coords t) ((dats m 0 c).after 4 t) = _
  rw [after0_4]
  unfold outsAt0
  rw [out_A]
  funext j
  rw [View.read_apply]
  obtain ⟨b, n, rfl⟩ : ∃ (b : Fin 192) (n : Fin 512), j = ix2 b n := ⟨j 0, j 1, eq_ix2 j⟩
  show k0_pay1 (F := Ideal) (k0_pay2 (F := Ideal) _ _) _ _ (ix2 b n) = result m c _
  rw [stored_at]
  simp only [blk0, blk1, blk2, blk3]
  have e : ((cfg0.win 4).blk t).view.emb (ix2 b n) = (ix2 b (col t n) : S192x31232.Idx) := by
    funext a
    apply Fin.ext
    match a with
    | ⟨0, _⟩ =>
      show win0_4.index t 0 * 192 + 1 * b.val = b.val
      rw [h0]; omega
    | ⟨1, _⟩ =>
      show win0_4.index t 1 * 512 + 1 * n.val = 512 * t.val + n.val
      rw [h1]; omega
  exact (congrArg (result m c) e).symm

/-- The grid leaves `result`: every column lies in the block of the point its number divided by 512 names. -/
theorem final (c : Dev nD) : (dats m 0 c).arrAt 4 cfg0.N = result m c :=
  (dats m 0 c).arrAt_eq_of_cover 4 (result m c) (flushed_eq m c) fun i => by
    have hN : cfg0.N = 61 := N_0
    have hb : (i 0 : Nat) < 192 := (i 0).isLt
    have hn : (i 1 : Nat) < 31232 := (i 1).isLt
    have ht : (i 1 : Nat) / 512 < cfg0.N := by omega
    refine ⟨⟨(i 1 : Nat) / 512, ht⟩, flush0_4 _, ?_⟩
    obtain ⟨-, -, -, -, -, -, h0, h1⟩ := idx_facts ⟨(i 1 : Nat) / 512, ht⟩
    show i ∈ ((View.whole main_v4).slice (win0_4.rect ⟨(i 1 : Nat) / 512, ht⟩)).set
    rw [View.set_slice_whole, Rect.mem_set_unit]
    intro a
    match a with
    | ⟨0, _⟩ =>
      show win0_4.index ⟨(i 1 : Nat) / 512, ht⟩ 0 * 192 ≤ (i 0 : Nat) ∧ (i 0 : Nat) < win0_4.index ⟨(i 1 : Nat) / 512, ht⟩ 0 * 192 + 192
      rw [h0]; omega
    | ⟨1, _⟩ =>
      show win0_4.index ⟨(i 1 : Nat) / 512, ht⟩ 1 * 512 ≤ (i 1 : Nat) ∧ (i 1 : Nat) < win0_4.index ⟨(i 1 : Nat) / 512, ht⟩ 1 * 512 + 512
      rw [h1]
      show (i 1 : Nat) / 512 * 512 ≤ (i 1 : Nat) ∧ (i 1 : Nat) < (i 1 : Nat) / 512 * 512 + 512
      omega

end Cert.Proof

end
-- ==== Proof.KernelRun.lean ====
/-
  The kernel's run: after the grid the array is reshaped, so the result is `entry` of the arguments at every index.
-/
module

public import proofs.«01_k».proof.Proof.KernelValue

@[expose] public section

noncomputable section

namespace Cert.Proof

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The kernel's result at device `c`: the grid's array with a middle axis of length one. -/
def final3 (c : Dev nD) : Buf (Elt Ideal) ((c : Thread nD τ).loc main_v5) := fun i => entryAt m c (i 0) (i 2)

/-- The reshape after the grid leaves that array. -/
theorem tail_eq (c : Dev nD) :
    Pipeline.afterTail₀ cfgs (dats m) 0 (V0 m) [hostOps1] c main_v5 = final3 m c := by
  unfold Pipeline.afterTail₀
  simp only [List.flatten_cons, List.flatten_nil, List.append_nil, hostOps1]
  after_results
  have e : Pipeline.withArrays spec0 c (V0 m c) (fun w => (dats (F := Ideal) m 0 c).arrAt w cfg0.N) (Proc.devRef .tc main_v4)
      = result m c :=
    (Pipeline.withArrays_arr spec0 (by decide) c (V0 m c) (fun w => (dats (F := Ideal) m 0 c).arrAt w cfg0.N) 4).trans (final m c)
  refine (congrArg (fun a => shapeCast S192x1x31232 a shapeCasts_S192x31232_S192x1x31232) e).trans ?_
  funext i
  obtain ⟨b, k, n, rfl⟩ : ∃ (b : Fin 192) (k : Fin 1) (n : Fin 31232), i = ix3 b k n := ⟨i 0, i 1, i 2, eq_ix3 i⟩
  refine shapeCast_apply _ _ _ (ix2 b n) ?_
  rw [Shape.rowMajor_val_three, Shape.rowMajor_val_two]
  show b.val * 31232 + n.val = (b.val * 1 + k.val) * 31232 + n.val
  have := k.isLt
  omega

/-- The kernel runs, ends with `entry` of its arguments in its result, and leaves its arguments as they were. -/
theorem run : θ_run defs (onTc (τ := τ) (main (F := Ideal))) ⟨m, fun _ => 0, ρ⟩ (fun r => ∀ c : Dev nD,
    r.2.mem ((c : Thread nD τ).loc main_v5) = final3 m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun _ h c =>
      ⟨((h.1 c).2 main_v5 (Pipeline.mem_restRefs_of main_v5 (by decide) (by decide))).trans (tail_eq m c), h.2 c⟩)
    (θ_run_and (run_main m ρ) (unchanged m ρ))

end Cert.Proof

end
-- ==== Proof.ReferenceValue.lean ====
/-
  The array the reference leaves.
-/
module

public import proofs.«01_k».proof.Proof.Gen.ReferenceIdeal.Frame
public import proofs.«01_k».proof.Proof.Result
public import Idealize.ShloMosaic.Lib.Claim
public import Idealize.ShloMosaic.Lib.Pointwise
public import Idealize.ShloMosaic.Lib.StableHlo.ReadAt

@[expose] public section

noncomputable section

namespace Cert.Proof.Reference

open Idealize.ShloMosaic Idealize.ShloMosaic.TcCoe Idealize.SL.Sem Cert.ReferenceIdeal Cert.ReferenceIdeal.Gen

/-- The reference's host operations after its scale conversion, in order. -/
abbrev hostOps : List (HloOp τ sig (Elt Ideal)) :=
  List.flatten [hostOps1, hostOps1_1, hostOps1_2, hostOps1_3, hostOps1_4, hostOps1_5, hostOps1_6, hostOps1_7, hostOps1_8, hostOps1_9,
    hostOps1_10, hostOps1_11, hostOps1_12, hostOps1_13, hostOps1_14, hostOps1_15, hostOps1_16, hostOps1_17, hostOps1_18, hostOps1_19,
    hostOps1_20, hostOps1_21, hostOps1_22, hostOps1_23, hostOps1_24, hostOps1_25, hostOps1_26]

/-- The select tree of a code with its constants 1 and 0 read. -/
theorem tree_read (c : BitVec 32) : tree c
    = Scalar.select (IntOp.cmpi .ne (IntOp.andi c 8#32) 0#32)
        (-(Scalar.select (IntOp.cmpi .ne (IntOp.andi c 4#32) 0#32)
          (Scalar.select (IntOp.cmpi .ne (IntOp.andi c 2#32) 0#32)
            (Scalar.select (IntOp.cmpi .ne (IntOp.andi c 1#32) 0#32) (Ideal.ofBits FTy.bf16 0x40C0#16) (Ideal.ofBits FTy.bf16 0x4080#16))
            (Scalar.select (IntOp.cmpi .ne (IntOp.andi c 1#32) 0#32) (Ideal.ofBits FTy.bf16 0x4040#16) (Ideal.ofBits FTy.bf16 0x4000#16)))
          (Scalar.select (IntOp.cmpi .ne (IntOp.andi c 2#32) 0#32)
            (Scalar.select (IntOp.cmpi .ne (IntOp.andi c 1#32) 0#32) (Ideal.ofBits FTy.bf16 0x3FC0#16) (1 : EReal))
            (Scalar.select (IntOp.cmpi .ne (IntOp.andi c 1#32) 0#32) (Ideal.ofBits FTy.bf16 0x3F00#16) (0 : EReal)))))
        (Scalar.select (IntOp.cmpi .ne (IntOp.andi c 4#32) 0#32)
          (Scalar.select (IntOp.cmpi .ne (IntOp.andi c 2#32) 0#32)
            (Scalar.select (IntOp.cmpi .ne (IntOp.andi c 1#32) 0#32) (Ideal.ofBits FTy.bf16 0x40C0#16) (Ideal.ofBits FTy.bf16 0x4080#16))
            (Scalar.select (IntOp.cmpi .ne (IntOp.andi c 1#32) 0#32) (Ideal.ofBits FTy.bf16 0x4040#16) (Ideal.ofBits FTy.bf16 0x4000#16)))
          (Scalar.select (IntOp.cmpi .ne (IntOp.andi c 2#32) 0#32)
            (Scalar.select (IntOp.cmpi .ne (IntOp.andi c 1#32) 0#32) (Ideal.ofBits FTy.bf16 0x3FC0#16) (1 : EReal))
            (Scalar.select (IntOp.cmpi .ne (IntOp.andi c 1#32) 0#32) (Ideal.ofBits FTy.bf16 0x3F00#16) (0 : EReal)))) := by
  unfold tree treeMag leaf
  rw [c1, c0, EReal.coe_one, EReal.coe_zero]

/-- The result at an index, from the contents before the host operations. -/
theorem host_at (V : Valuation τ sig (Elt Ideal)) (b : Fin 192) (n : Fin 31232) :
    StableHlo.after hostOps V (Proc.devRef .tc main_v73) (ix3 b 0 n)
      = entry (V (Proc.devRef .tc main_arg0)) (V (Proc.devRef .tc main_arg1)) (V (Proc.devRef .tc main_v0))
          (V (Proc.devRef .tc main_arg3) fun a => a.elim0) b n := by
  rw [entry_eq_halves]
  after_reads_at
  have e (j : Fin 960) (h : j.val / 8 * 8 + j.val % 8 < 960) : (⟨j.val / 8 * 8 + j.val % 8, h⟩ : Fin 960) = j :=
    Fin.ext (Nat.div_add_mod' j.val 8)
  simp only [e]
  refine congrArg₂ (· * ·) (congrArg₂ (· + ·) (Finset.sum_congr rfl fun j _ => ?_) (Finset.sum_congr rfl fun j _ => ?_)) ?_
  · rw [tree_read]
    rfl
  · have k (h : 1 + 2 * j.val < 1920) (h' : 2 * j.val + 1 < 1920) :
        (⟨1 + 2 * j.val, h⟩ : Fin 1920) = ⟨2 * j.val + 1, h'⟩ := Fin.ext (Nat.add_comm _ _)
    rw [tree_read]
    refine congrArg₂ (· * ·) (congrArg _ (congrArg (ix3 b 0) (k _ _))) rfl
  · exact congrArg _ (funext fun a => a.elim0)

end Cert.Proof.Reference

end
-- ==== Proof.ReferenceRun.lean ====
/-
  The reference's run: its scale conversion copies the scales, so its result is `entry` of its arguments at every index.
-/
module

public import proofs.«01_k».proof.Proof.ReferenceValue

@[expose] public section

noncomputable section

namespace Cert.Proof.Reference

open Idealize.ShloMosaic Idealize.ShloMosaic.TcCoe Idealize.SL.Sem Cert.ReferenceIdeal Cert.ReferenceIdeal.Gen

variable (m : (ℓ : Loc nD τ sig) → Buf (Elt Ideal) ℓ) (ρ : Dev nD → PrngReg)

/-- The one point of the scale conversion. -/
def t₀ : Fin cfg0.N := ⟨0, by decide⟩

/-- What the conversion stores, from what it loads. -/
theorem stored_eq (x : Vec Ideal S31232x120 .fp8e4m3) : out0_1 (F := Ideal) x = k0_pay1 x := by
  have hz : (![0, 0] : Fin S31232x120.rank → Nat) = fun _ => 0 := funext fun a => by fin_cases a <;> rfl
  unfold out0_1
  rw [View.canon_unit_zero hz, View.ld_unit_zero hz]

/-- The converted scales are the scales. -/
theorem scales (c : Dev nD) (i : S31232x120.Idx) :
    (dats (F := Ideal) m 0 c).arrAt 1 cfg0.N i = m ((c : Thread nD τ).loc main_arg2) i := by
  have hz : (fun a => (win0_1.index t₀) a * main_v0.ty.shape.size a) = fun _ => 0 := funext fun a => by fin_cases a <;> decide
  have hr := fun f => Memref.read_access_unit_zero (Elt Ideal) main_v0 hz (fun a => by rw [congrFun hz a]; simp) f
  have hz' : (fun a => (win0_0.index t₀) a * main_arg2.ty.shape.size a) = fun _ => 0 := funext fun a => by fin_cases a <;> decide
  have hr' := fun f => Memref.read_access_unit_zero (Elt Ideal) main_arg2 hz' (fun a => by rw [congrFun hz' a]; simp) f
  have h : ((cfg0.win 1).blk t₀).view.read (Elt Ideal) ((dats (F := Ideal) m 0 c).arrAt 1 cfg0.N)
      = (dats (F := Ideal) m 0 c).flushed 1 t₀ := by
    rw [show cfg0.N = (t₀ : Fin cfg0.N).val + 1 from rfl, (dats (F := Ideal) m 0 c).arrAt_succ 1 t₀,
      show (cfg0.win 1).flush t₀ = true from flush0_1 t₀, if_pos rfl]
    exact View.read_write_univ _ _
  rw [hr] at h
  rw [h]
  show (cfg0.win 1).cut _ ((dats (F := Ideal) m 0 c).after 1 t₀) i = _
  rw [after0_1, stored_eq]
  unfold iblk
  rw [hr']
  rfl

/-- The reference's result at device `c`. -/
theorem result_at (c : Dev nD) (b : Fin 192) (n : Fin 31232) :
    Pipeline.afterTail₀ cfgs (dats m) 0 (V0 m) [hostOps1, hostOps1_1, hostOps1_2, hostOps1_3, hostOps1_4, hostOps1_5, hostOps1_6,
        hostOps1_7, hostOps1_8, hostOps1_9, hostOps1_10, hostOps1_11, hostOps1_12, hostOps1_13, hostOps1_14, hostOps1_15, hostOps1_16,
        hostOps1_17, hostOps1_18, hostOps1_19, hostOps1_20, hostOps1_21, hostOps1_22, hostOps1_23, hostOps1_24, hostOps1_25,
        hostOps1_26] c main_v73 (ix3 b 0 n)
      = entry (m ((c : Thread nD τ).loc main_arg0)) (m ((c : Thread nD τ).loc main_arg1)) (m ((c : Thread nD τ).loc main_arg2))
          (m ((c : Thread nD τ).loc main_arg3) fun a => a.elim0) b n := by
  unfold Pipeline.afterTail₀
  refine (host_at _ b n).trans ?_
  rw [Pipeline.withArrays_of_ne _ c (V0 m c) _ main_arg0 (by exact (by decide : ∀ w, Pipeline.arrRef spec0 w ≠ main_arg0)),
    Pipeline.withArrays_of_ne _ c (V0 m c) _ main_arg1 (by exact (by decide : ∀ w, Pipeline.arrRef spec0 w ≠ main_arg1)),
    Pipeline.withArrays_of_ne _ c (V0 m c) _ main_arg3 (by exact (by decide : ∀ w, Pipeline.arrRef spec0 w ≠ main_arg3))]
  have e : Pipeline.withArrays spec0 c (V0 m c) (fun w => (dats (F := Ideal) m 0 c).arrAt w cfg0.N) (Proc.devRef .tc main_v0)
      = m ((c : Thread nD τ).loc main_arg2) :=
    (Pipeline.withArrays_arr spec0 (by decide) c (V0 m c) (fun w => (dats (F := Ideal) m 0 c).arrAt w cfg0.N) 1).trans (funext (scales m c))
  exact congrArg (fun s => entry _ _ s _ b n) e

/-- The reference runs, ends with `entry` of its arguments in its result, and leaves its arguments as they were. -/
theorem run : θ_run defs (onTc (τ := τ) (main (F := Ideal))) ⟨m, fun _ => 0, ρ⟩ (fun r => ∀ c : Dev nD,
    (∀ (b : Fin 192) (n : Fin 31232), r.2.mem ((c : Thread nD τ).loc main_v73) (ix3 b 0 n)
      = entry (m ((c : Thread nD τ).loc main_arg0)) (m ((c : Thread nD τ).loc main_arg1)) (m ((c : Thread nD τ).loc main_arg2))
          (m ((c : Thread nD τ).loc main_arg3) fun a => a.elim0) b n)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)) :=
  (θ_run defs _ _).mono (fun _ h c => ⟨fun b n =>
      (congrFun ((h.1 c).2 main_v73 (Pipeline.mem_restRefs_of main_v73 (by decide) (by decide))) (ix3 b 0 n)).trans (result_at m c b n),
      h.2 c⟩)
    (θ_run_and (run_main m ρ) (unchanged m ρ))

end Cert.Proof.Reference

end
-- ==== Proof.lean ====
/-
  The five claims about the packed fp4 linear layer.

  Each program's frame is its generated run. The algebraic claim reads the kernel's run (`Proof/KernelRun.lean`) and the
  reference's (`Proof/ReferenceRun.lean`): both results are the function `entry` of `Proof/Result.lean` of the arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelRun
public import proofs.«01_k».proof.Proof.ReferenceRun
public import Idealize.ShloMosaic.Adequacy
public import Idealize.ShloMosaic.Init

@[expose] public section

noncomputable section

namespace Cert.Proof

open Idealize.ShloMosaic Idealize.ShloMosaic.TcCoe Idealize.SL.Sem

/-- On equal arguments the kernel and the reference end with the same result, entry by entry `entry` of the arguments. -/
theorem algebraic : Cert.algebraic_KernelIdeal_ReferenceIdeal := by
  intro m g m' g' _ hagree
  refine ⟨final3 m, run m g, (θ_run _ _ _).mono (fun r h c => ⟨?_, (h c).2⟩) (Reference.run m' g')⟩
  obtain ⟨e0, e1, e2, e3⟩ := hagree c
  funext i
  obtain ⟨b, k, n, rfl⟩ : ∃ (b : Fin 192) (k : Fin 1) (n : Fin 31232), i = ix3 b k n := ⟨i 0, i 1, i 2, eq_ix3 i⟩
  obtain rfl : k = 0 := Subsingleton.elim _ _
  refine ((h c).1 b n).trans ?_
  rw [e0, e1, e2, e3]
  rfl

/-- The five claims: the three programs run and leave their arguments as they were, the idealized kernel keeps the
    kernel's structure, and it computes what the reference computes. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
